-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x32768 : Shape := ⟨3, ![128, 1, 32768]⟩
abbrev S128x1x64x64 : Shape := ⟨4, ![128, 1, 64, 64]⟩
abbrev S128x8192x512 : Shape := ⟨3, ![128, 8192, 512]⟩
abbrev S128x8192 : Shape := ⟨2, ![128, 8192]⟩
abbrev S128x8192x64 : Shape := ⟨3, ![128, 8192, 64]⟩
abbrev S128x64x512 : Shape := ⟨3, ![128, 64, 512]⟩
abbrev S128x64x64 : Shape := ⟨3, ![128, 64, 64]⟩
abbrev S1x64x512 : Shape := ⟨3, ![1, 64, 512]⟩
abbrev S1x64x64 : Shape := ⟨3, ![1, 64, 64]⟩
abbrev S1x8192x512 : Shape := ⟨3, ![1, 8192, 512]⟩
abbrev S8x8192 : Shape := ⟨2, ![8, 8192]⟩
abbrev S1x8192x64 : Shape := ⟨3, ![1, 8192, 64]⟩
abbrev S64x8192 : Shape := ⟨2, ![64, 8192]⟩
abbrev S64x512 : Shape := ⟨2, ![64, 512]⟩
abbrev S64x64 : Shape := ⟨2, ![64, 64]⟩
abbrev S1x1024 : Shape := ⟨2, ![1, 1024]⟩
abbrev S1x1024x512 : Shape := ⟨3, ![1, 1024, 512]⟩
abbrev S1024x512 : Shape := ⟨2, ![1024, 512]⟩
abbrev S64x1024 : Shape := ⟨2, ![64, 1024]⟩
abbrev S1x1024x64 : Shape := ⟨3, ![1, 1024, 64]⟩
abbrev S1024x64 : Shape := ⟨2, ![1024, 64]⟩
abbrev S64 : Shape := ⟨1, ![64]⟩
abbrev S64x1 : Shape := ⟨2, ![64, 1]⟩

abbrev nBuf : Space → Nat
  | .hbm => 9
  | .vmem => 13
  | .smem => 0
  | _ => 0

abbrev bufTy : (tb : Table) → Fin (tcTables nBuf tb) → BufTy
  | .hbm, ⟨0, _⟩ => ⟨S128x1x32768, .bf16⟩
  | .hbm, ⟨1, _⟩ => ⟨S128x1x64x64, .bf16⟩
  | .hbm, ⟨2, _⟩ => ⟨S128x8192x512, .fp8e4m3⟩
  | .hbm, ⟨3, _⟩ => ⟨S128x8192, .f32⟩
  | .hbm, ⟨4, _⟩ => ⟨S128x8192x64, .bf16⟩
  | .hbm, ⟨5, _⟩ => ⟨S128x64x512, .bf16⟩
  | .hbm, ⟨6, _⟩ => ⟨S128x64x64, .bf16⟩
  | .hbm, ⟨7, _⟩ => ⟨S128x64x512, .bf16⟩
  | .hbm, ⟨8, _⟩ => ⟨S128x1x32768, .bf16⟩
  | .local _ .vmem, ⟨0, _⟩ => ⟨S1x64x512, .bf16⟩
  | .local _ .vmem, ⟨1, _⟩ => ⟨S1x64x512, .bf16⟩
  | .local _ .vmem, ⟨2, _⟩ => ⟨S1x64x64, .bf16⟩
  | .local _ .vmem, ⟨3, _⟩ => ⟨S1x64x64, .bf16⟩
  | .local _ .vmem, ⟨4, _⟩ => ⟨S1x8192x512, .fp8e4m3⟩
  | .local _ .vmem, ⟨5, _⟩ => ⟨S1x8192x512, .fp8e4m3⟩
  | .local _ .vmem, ⟨6, _⟩ => ⟨S8x8192, .f32⟩
  | .local _ .vmem, ⟨7, _⟩ => ⟨S8x8192, .f32⟩
  | .local _ .vmem, ⟨8, _⟩ => ⟨S1x8192x64, .bf16⟩
  | .local _ .vmem, ⟨9, _⟩ => ⟨S1x8192x64, .bf16⟩
  | .local _ .vmem, ⟨10, _⟩ => ⟨S1x64x512, .bf16⟩
  | .local _ .vmem, ⟨11, _⟩ => ⟨S1x64x512, .bf16⟩
  | .local _ .vmem, ⟨12, _⟩ => ⟨S64x8192, .f32⟩
  | _, _ => ⟨S128x1x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![128], ![false]⟩

def k0_off1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v14 : Index := Scalar.indexCast v9
  let c0_8 : Index := 0#32
  ![v14.toNat, 0]
def k0_off2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v30 : Index := Scalar.indexCast v9
  let c1024 : Index := 1024#32
  ![v30.toNat, 1024]
def k0_off3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v47 : Index := Scalar.indexCast v9
  let c2048 : Index := 2048#32
  ![v47.toNat, 2048]
def k0_off4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v64 : Index := Scalar.indexCast v9
  let c3072 : Index := 3072#32
  ![v64.toNat, 3072]
def k0_off5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v81 : Index := Scalar.indexCast v9
  let c4096 : Index := 4096#32
  ![v81.toNat, 4096]
def k0_off6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v98 : Index := Scalar.indexCast v9
  let c5120 : Index := 5120#32
  ![v98.toNat, 5120]
def k0_off7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v115 : Index := Scalar.indexCast v9
  let c6144 : Index := 6144#32
  ![v115.toNat, 6144]
def k0_off8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v132 : Index := Scalar.indexCast v9
  let c7168 : Index := 7168#32
  ![v132.toNat, 7168]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8192x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S128x1x32768 : Shape := ⟨3, ![128, 1, 32768]⟩
abbrev S128x1x64x64 : Shape := ⟨4, ![128, 1, 64, 64]⟩
abbrev S128x8192x512 : Shape := ⟨3, ![128, 8192, 512]⟩
abbrev S128x8192 : Shape := ⟨2, ![128, 8192]⟩
abbrev S128x8192x64 : Shape := ⟨3, ![128, 8192, 64]⟩
abbrev S128x64x512 : Shape := ⟨3, ![128, 64, 512]⟩
abbrev S128x64x64 : Shape := ⟨3, ![128, 64, 64]⟩
abbrev S128x64x8192 : Shape := ⟨3, ![128, 64, 8192]⟩
abbrev S128x1x8192 : Shape := ⟨3, ![128, 1, 8192]⟩
abbrev S128x64 : Shape := ⟨2, ![128, 64]⟩
abbrev S128x64x1 : Shape := ⟨3, ![128, 64, 1]⟩

abbrev nBuf : Space → Nat
  | .hbm => 9
  | .vmem => 6
  | .smem => 0
  | _ => 0

abbrev bufTy : (tb : Table) → Fin (tcTables nBuf tb) → BufTy
  | .hbm, ⟨0, _⟩ => ⟨S128x1x32768, .bf16⟩
  | .hbm, ⟨1, _⟩ => ⟨S128x1x64x64, .bf16⟩
  | .hbm, ⟨2, _⟩ => ⟨S128x8192x512, .fp8e4m3⟩
  | .hbm, ⟨3, _⟩ => ⟨S128x8192, .f32⟩
  | .hbm, ⟨4, _⟩ => ⟨S128x8192x64, .bf16⟩
  | .hbm, ⟨5, _⟩ => ⟨S128x64x512, .bf16⟩
  | .hbm, ⟨6, _⟩ => ⟨S128x64x64, .bf16⟩
  | .hbm, ⟨7, _⟩ => ⟨S128x64x512, .bf16⟩
  | .hbm, ⟨8, _⟩ => ⟨S128x1x32768, .bf16⟩
  | .local _ .vmem, ⟨0, _⟩ => ⟨S128x64x512, .bf16⟩
  | .local _ .vmem, ⟨1, _⟩ => ⟨S128x64x64, .bf16⟩
  | .local _ .vmem, ⟨2, _⟩ => ⟨S128x8192x512, .fp8e4m3⟩
  | .local _ .vmem, ⟨3, _⟩ => ⟨S128x8192, .f32⟩
  | .local _ .vmem, ⟨4, _⟩ => ⟨S128x8192x64, .bf16⟩
  | .local _ .vmem, ⟨5, _⟩ => ⟨S128x64x512, .bf16⟩
  | _, _ => ⟨S128x1x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S128x64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x8192x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x8192x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x64x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Softmax.lean ====
/-
  ONE ROW OF ATTENTION OVER THE EXTENDED REALS, AND THE SAME ROW READ IN EIGHT CHUNKS.

  `row s w v` is softmax attention over 8192 keys with scores `s`, weights scaled by `w`, values `v`.  A
  computation in eight chunks of 1024 keys spells its maximum as an elementwise maximum of the eight chunks before the maximum over
  the lanes (`top8_eq`), its denominator as a sum over the lanes of the eight chunks' sum (`sum_lanes`), and its numerator as eight
  sums added one after the other (`sum_chunks`).  All three agree with the row's at every extended real, infinities included: only
  the order of a maximum and of sums differs, no distributivity is used.
-/
module

public import Idealize.ShloMosaic.Lib.Pointwise

@[expose] public section

set_option maxRecDepth 16384

noncomputable section

namespace Cert.Softmax

open Idealize.ShloMosaic

/-- The maximum of finitely many scores, at least the value `b` it starts from. -/
def top (b : EReal) {n : Nat} (s : Fin n → EReal) : EReal := Finset.univ.fold max b s

/-- Softmax attention of one row: the weights `exp (s t - max s)`, scaled by `w t`, averaged over the values `v t`, and
    divided by the sum of the unscaled weights. `b` is the value the maximum starts from. -/
def row (b : EReal) (s w v : Fin 8192 → EReal) : EReal :=
  Ideal.div (∑ t, Ideal.exp (s t - top b s) * w t * v t) (∑ t, Ideal.exp (s t - top b s))

/-- Chunk `k` of 1024 of a family of 8192. -/
def chunk (f : Fin 8192 → EReal) (k : Fin 8) (l : Fin 1024) : EReal := f ⟨k.val * 1024 + l.val, by omega⟩

/-- The maximum over the lanes of the maximum over the eight chunks. -/
def top8 (b : EReal) (s : Fin 8 → Fin 1024 → EReal) : EReal :=
  top b fun l => max (max (max (max (max (max (max (s 0 l) (s 1 l)) (s 2 l)) (s 3 l)) (s 4 l)) (s 5 l)) (s 6 l)) (s 7 l)

/-- A score is at most the maximum. -/
theorem le_top (b : EReal) {n : Nat} (s : Fin n → EReal) (t : Fin n) : s t ≤ top b s :=
  (Finset.le_fold_max _).mpr (.inr ⟨t, Finset.mem_univ _, le_rfl⟩)

/-- The starting value is at most the maximum. -/
theorem base_le_top (b : EReal) {n : Nat} (s : Fin n → EReal) : b ≤ top b s :=
  (Finset.le_fold_max _).mpr (.inl le_rfl)

/-- The maximum is at most any bound of the starting value and the scores. -/
theorem top_le {b : EReal} {n : Nat} {s : Fin n → EReal} {a : EReal} (hb : b ≤ a) (h : ∀ t, s t ≤ a) : top b s ≤ a :=
  (Finset.fold_max_le _).mpr ⟨hb, fun t _ => h t⟩

/-- Every entry is an entry of its chunk. -/
theorem exists_chunk (f : Fin 8192 → EReal) (t : Fin 8192) : ∃ k l, f t = chunk f k l :=
  ⟨⟨t.val / 1024, by omega⟩, ⟨t.val % 1024, by omega⟩, congrArg f (Fin.ext (by show t.val = t.val / 1024 * 1024 + t.val % 1024; omega))⟩

/-- An entry of a chunk is at most the maximum over the lanes of the chunks' maximum. -/
theorem le_top8 (b : EReal) (s : Fin 8 → Fin 1024 → EReal) (k : Fin 8) (l : Fin 1024) : s k l ≤ top8 b s := by
  refine le_trans ?_ (le_top b _ l)
  match k with
  | 0 => simp
  | 1 => simp
  | 2 => simp
  | 3 => simp
  | 4 => simp
  | 5 => simp
  | 6 => simp
  | 7 => simp

/-- The maximum over the lanes of the chunks' maximum is the maximum over all 8192. -/
theorem top8_eq (b : EReal) (s : Fin 8192 → EReal) : top8 b (chunk s) = top b s := by
  have hc : ∀ k l, chunk s k l ≤ top b s := fun k l => le_top b s _
  apply le_antisymm
  · exact top_le (base_le_top _ _) fun l =>
      max_le (max_le (max_le (max_le (max_le (max_le (max_le (hc 0 l) (hc 1 l)) (hc 2 l)) (hc 3 l)) (hc 4 l)) (hc 5 l)) (hc 6 l)) (hc 7 l)
  · refine top_le (base_le_top _ _) fun t => ?_
    obtain ⟨k, l, h⟩ := exists_chunk s t
    exact h ▸ le_top8 b _ k l

/-- A sum over 8192 is the sum over the lanes of the eight chunks' sum. -/
theorem sum_lanes (f : Fin 8192 → EReal) :
    ∑ l, (chunk f 0 l + chunk f 1 l + chunk f 2 l + chunk f 3 l + chunk f 4 l + chunk f 5 l + chunk f 6 l + chunk f 7 l)
      = ∑ t, f t := by
  rw [Fin.sum_univ_tiles 8 1024 rfl f, Finset.sum_comm]
  exact Finset.sum_congr rfl fun l _ => by rw [Fin.sum_univ_eight]; rfl

/-- A sum over 8192 is the eight chunks' sums, added one after the other. -/
theorem sum_chunks (f : Fin 8192 → EReal) :
    (∑ l, chunk f 0 l) + (∑ l, chunk f 1 l) + (∑ l, chunk f 2 l) + (∑ l, chunk f 3 l) + (∑ l, chunk f 4 l)
      + (∑ l, chunk f 5 l) + (∑ l, chunk f 6 l) + (∑ l, chunk f 7 l) = ∑ t, f t := by
  rw [Fin.sum_univ_tiles 8 1024 rfl f, Fin.sum_univ_eight]; rfl

end Cert.Softmax
-- ==== Proof.KernelBlock.lean ====
/-
  WHAT THE KERNEL WRITES AT ONE GRID POINT.  The run's block term is opened, the scores read back from the scratch array are
  replaced by the scores stored there, and the result is stated over three named stages: the scores of a chunk (`score`), the
  maximum of the eight chunks over the lanes (`runMax`) and the weighted average (`block`).  Each stage is then read at an index.
-/
module

public import proofs.«01_k».proof.Proof.Softmax
public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

/-- The scores of one chunk of 1024 keys: both products with the queries, the first scaled key by key, their sum times the
    softmax scale. -/
abbrev score (q : Vec Ideal S1x64x512 .bf16) (r : Vec Ideal S1x64x64 .bf16) (w : Vec Ideal S1x1024 .f32) (v : Vec Ideal S1x1024x512 .fp8e4m3)
    (k : Vec Ideal S1x1024x64 .bf16) : FVec Ideal S64x1024 .f32 :=
  k0_pay6 (k0_pay2 q) (k0_pay3 r) w v k

/-- The maximum of eight chunks' scores, chunk by chunk and then over the lanes. -/
def runMax (s : Fin 8 → FVec Ideal S64x1024 .f32) : FVec Ideal S64x1 .f32 :=
  shapeCast S64x1 (multiReduction .maximumf [1] S64
    (maximumf (maximumf (maximumf (maximumf (maximumf (maximumf (maximumf (s 0) (s 1)) (s 2)) (s 3)) (s 4)) (s 5)) (s 6)) (s 7))
    0xFF800000#32 reduces_S64x1024_S64 (.inl rfl) rfl) shapeCasts_S64_S64x1

/-- The softmax weights of one chunk before the division. -/
def expo (M : FVec Ideal S64x1 .f32) (s : FVec Ideal S64x1024 .f32) : FVec Ideal S64x1024 .f32 :=
  exp (subf s (broadcastTo S64x1024 M broadcasts_S64x1_S64x1024))

/-- One chunk's weighted sum of the values. -/
def part (M : FVec Ideal S64x1 .f32) (s : FVec Ideal S64x1024 .f32) (w : Vec Ideal S1x1024 .f32) (v : Vec Ideal S1x1024x512 .fp8e4m3) :
    FVec Ideal S64x512 .f32 :=
  matmul dot_S64x1024_S1024x512_S64x512_1_0_0_1_n_n none
    (truncf .bf16 (mulf (expo M s) (broadcastTo S64x1024 w broadcasts_S1x1024_S64x1024)) bitsLt_bf16_f32)
    (shapeCast S1024x512 v shapeCasts_S1x1024x512_S1024x512 : FVec Ideal S1024x512 .fp8e4m3) (constant S64x512 .f32 0x00000000#32)

/-- The block written at a grid point: the chunks' weighted sums, added, over the lanes' sum of the chunks' weights. -/
def block (M : FVec Ideal S64x1 .f32) (s : Fin 8 → FVec Ideal S64x1024 .f32) (w : Fin 8 → Vec Ideal S1x1024 .f32)
    (v : Fin 8 → Vec Ideal S1x1024x512 .fp8e4m3) : FVec Ideal S1x64x512 .bf16 :=
  shapeCast S1x64x512 (truncf .bf16 (divf
    (addf (addf (addf (addf (addf (addf (addf (part M (s 0) (w 0) (v 0)) (part M (s 1) (w 1) (v 1))) (part M (s 2) (w 2) (v 2)))
      (part M (s 3) (w 3) (v 3))) (part M (s 4) (w 4) (v 4))) (part M (s 5) (w 5) (v 5))) (part M (s 6) (w 6) (v 6))) (part M (s 7) (w 7) (v 7)))
    (broadcastTo S64x512 (shapeCast S64x1 (multiReduction .add [1] S64
      (addf (addf (addf (addf (addf (addf (addf (expo M (s 0)) (expo M (s 1))) (expo M (s 2))) (expo M (s 3))) (expo M (s 4))) (expo M (s 5)))
        (expo M (s 6))) (expo M (s 7)))
      0x00000000#32 reduces_S64x1024_S64 (.inl rfl) rfl) shapeCasts_S64_S64x1) broadcasts_S64x1_S64x512)) bitsLt_bf16_f32)
    shapeCasts_S64x512_S1x64x512

/-! ## The stages at an index -/

/-- A chunk's scores at head `h`, lane `l`. -/
theorem score_at (q : Vec Ideal S1x64x512 .bf16) (r : Vec Ideal S1x64x64 .bf16) (w : Vec Ideal S1x1024 .f32) (v : Vec Ideal S1x1024x512 .fp8e4m3)
    (k : Vec Ideal S1x1024x64 .bf16) (h : Fin 64) (l : Fin 1024) :
    score q r w v k (ix2 h l)
      = ((∑ x, q (ix3 0 h x) * v (ix3 0 l x)) * w (ix2 0 l) + ∑ x, r (ix3 0 h x) * k (ix3 0 l x)) * Ideal.ofBits .f32 0x3D93CD3A#32 := by
  pointwise [k0_pay6, k0_pay2, k0_pay3]

/-- The maximum at head `h`. -/
theorem runMax_at (s : Fin 8 → FVec Ideal S64x1024 .f32) (h : Fin 64) :
    runMax s (ix2 h 0) = Softmax.top8 (Ideal.ofBits .f32 0xFF800000#32) fun k l => s k (ix2 h l) := by
  pointwise [runMax]
  rfl

/-- The block at head `h`, latent coordinate `d`. -/
theorem block_at (M : FVec Ideal S64x1 .f32) (s : Fin 8 → FVec Ideal S64x1024 .f32) (w : Fin 8 → Vec Ideal S1x1024 .f32)
    (v : Fin 8 → Vec Ideal S1x1024x512 .fp8e4m3) (u : Fin 1) (h : Fin 64) (d : Fin 512) :
    block M s w v (ix3 u h d)
      = (let e : Fin 8 → Fin 1024 → EReal := fun k l => Ideal.exp (s k (ix2 h l) - M (ix2 h 0))
         let p : Fin 8 → EReal := fun k => ∑ l, e k l * w k (ix2 0 l) * v k (ix3 0 l d)
         Ideal.div (p 0 + p 1 + p 2 + p 3 + p 4 + p 5 + p 6 + p 7)
           (∑ l, (e 0 l + e 1 l + e 2 l + e 3 l + e 4 l + e 5 l + e 6 l + e 7 l))) := by
  pointwise [block, part, expo]

variable (m : (ℓ : Loc nD τ sig) → Buf (Elt Ideal) ℓ)

/-- The eight chunks of the scale row of grid point `i`, as the kernel loads them. -/
def wOf (x : Vec Ideal S8x8192 .f32) (i : grid0.Coords) : Fin 8 → Vec Ideal S1x1024 .f32 :=
  ![View.ld x (Rect.unit (k0_off1 i) S1x1024.size (k0_off1_inb i)),
    View.ld x (Rect.unit (k0_off2 i) S1x1024.size (k0_off2_inb i)),
    View.ld x (Rect.unit (k0_off3 i) S1x1024.size (k0_off3_inb i)),
    View.ld x (Rect.unit (k0_off4 i) S1x1024.size (k0_off4_inb i)),
    View.ld x (Rect.unit (k0_off5 i) S1x1024.size (k0_off5_inb i)),
    View.ld x (Rect.unit (k0_off6 i) S1x1024.size (k0_off6_inb i)),
    View.ld x (Rect.unit (k0_off7 i) S1x1024.size (k0_off7_inb i)),
    View.ld x (Rect.unit (k0_off8 i) S1x1024.size (k0_off8_inb i))]

/-- The eight chunks of the latent cache's block, as the kernel loads them. -/
def vOf (x : Vec Ideal S1x8192x512 .fp8e4m3) : Fin 8 → Vec Ideal S1x1024x512 .fp8e4m3 :=
  ![View.ld x (Rect.unit ![0, 0, 0] S1x1024x512.size inb_S1x8192x512_S1x1024x512_0_0_0),
    View.ld x (Rect.unit ![0, 1024, 0] S1x1024x512.size inb_S1x8192x512_S1x1024x512_0_1024_0),
    View.ld x (Rect.unit ![0, 2048, 0] S1x1024x512.size inb_S1x8192x512_S1x1024x512_0_2048_0),
    View.ld x (Rect.unit ![0, 3072, 0] S1x1024x512.size inb_S1x8192x512_S1x1024x512_0_3072_0),
    View.ld x (Rect.unit ![0, 4096, 0] S1x1024x512.size inb_S1x8192x512_S1x1024x512_0_4096_0),
    View.ld x (Rect.unit ![0, 5120, 0] S1x1024x512.size inb_S1x8192x512_S1x1024x512_0_5120_0),
    View.ld x (Rect.unit ![0, 6144, 0] S1x1024x512.size inb_S1x8192x512_S1x1024x512_0_6144_0),
    View.ld x (Rect.unit ![0, 7168, 0] S1x1024x512.size inb_S1x8192x512_S1x1024x512_0_7168_0)]

/-- The eight chunks of the rotary keys' block, as the kernel loads them. -/
def kOf (x : Vec Ideal S1x8192x64 .bf16) : Fin 8 → Vec Ideal S1x1024x64 .bf16 :=
  ![View.ld x (Rect.unit ![0, 0, 0] S1x1024x64.size inb_S1x8192x64_S1x1024x64_0_0_0),
    View.ld x (Rect.unit ![0, 1024, 0] S1x1024x64.size inb_S1x8192x64_S1x1024x64_0_1024_0),
    View.ld x (Rect.unit ![0, 2048, 0] S1x1024x64.size inb_S1x8192x64_S1x1024x64_0_2048_0),
    View.ld x (Rect.unit ![0, 3072, 0] S1x1024x64.size inb_S1x8192x64_S1x1024x64_0_3072_0),
    View.ld x (Rect.unit ![0, 4096, 0] S1x1024x64.size inb_S1x8192x64_S1x1024x64_0_4096_0),
    View.ld x (Rect.unit ![0, 5120, 0] S1x1024x64.size inb_S1x8192x64_S1x1024x64_0_5120_0),
    View.ld x (Rect.unit ![0, 6144, 0] S1x1024x64.size inb_S1x8192x64_S1x1024x64_0_6144_0),
    View.ld x (Rect.unit ![0, 7168, 0] S1x1024x64.size inb_S1x8192x64_S1x1024x64_0_7168_0)]

/-- The offsets of the eight loads of the scale row: the row is the point's number modulo 8, the columns are chunk `k`'s. -/
theorem off_eq : ∀ i : grid0.Coords, k0_off1 i = ![(i 0).val % 8, 0] ∧ k0_off2 i = ![(i 0).val % 8, 1024] ∧ k0_off3 i = ![(i 0).val % 8, 2048]
    ∧ k0_off4 i = ![(i 0).val % 8, 3072] ∧ k0_off5 i = ![(i 0).val % 8, 4096] ∧ k0_off6 i = ![(i 0).val % 8, 5120]
    ∧ k0_off7 i = ![(i 0).val % 8, 6144] ∧ k0_off8 i = ![(i 0).val % 8, 7168] := by decide +kernel

/-- Chunk `k` of the scale row, at a lane. -/
theorem wOf_at (x : Vec Ideal S8x8192 .f32) (i : grid0.Coords) (k : Fin 8) (u : Fin 1) (l : Fin 1024) :
    wOf x i k (ix2 u l) = x (ix2 ⟨(i 0).val % 8, by omega⟩ ⟨k.val * 1024 + l.val, by omega⟩) := by
  obtain ⟨h1, h2, h3, h4, h5, h6, h7, h8⟩ := off_eq i
  match k with
  | 0 => show View.ld x (Rect.unit (k0_off1 i) S1x1024.size (k0_off1_inb i)) (ix2 u l) = _; pointwise; blk_ext [h1]
  | 1 => show View.ld x (Rect.unit (k0_off2 i) S1x1024.size (k0_off2_inb i)) (ix2 u l) = _; pointwise; blk_ext [h2]
  | 2 => show View.ld x (Rect.unit (k0_off3 i) S1x1024.size (k0_off3_inb i)) (ix2 u l) = _; pointwise; blk_ext [h3]
  | 3 => show View.ld x (Rect.unit (k0_off4 i) S1x1024.size (k0_off4_inb i)) (ix2 u l) = _; pointwise; blk_ext [h4]
  | 4 => show View.ld x (Rect.unit (k0_off5 i) S1x1024.size (k0_off5_inb i)) (ix2 u l) = _; pointwise; blk_ext [h5]
  | 5 => show View.ld x (Rect.unit (k0_off6 i) S1x1024.size (k0_off6_inb i)) (ix2 u l) = _; pointwise; blk_ext [h6]
  | 6 => show View.ld x (Rect.unit (k0_off7 i) S1x1024.size (k0_off7_inb i)) (ix2 u l) = _; pointwise; blk_ext [h7]
  | 7 => show View.ld x (Rect.unit (k0_off8 i) S1x1024.size (k0_off8_inb i)) (ix2 u l) = _; pointwise; blk_ext [h8]

/-- Chunk `k` of the latent codes, at a key and a coordinate. -/
theorem vOf_at (x : Vec Ideal S1x8192x512 .fp8e4m3) (k : Fin 8) (u : Fin 1) (l : Fin 1024) (d : Fin 512) :
    vOf x k (ix3 u l d) = x (ix3 0 ⟨k.val * 1024 + l.val, by omega⟩ d) := by
  fin_cases k <;> (pointwise [vOf] ; try blk_ext)

/-- Chunk `k` of the rotary keys, at a key and a coordinate. -/
theorem kOf_at (x : Vec Ideal S1x8192x64 .bf16) (k : Fin 8) (u : Fin 1) (l : Fin 1024) (d : Fin 64) :
    kOf x k (ix3 u l d) = x (ix3 0 ⟨k.val * 1024 + l.val, by omega⟩ d) := by
  fin_cases k <;> (pointwise [kOf] ; try blk_ext)

/-! ## The eight chunks' score payloads are one function of the chunk's loads -/

theorem pay4_eq (q r w v k) : k0_pay4 (F := Ideal) q r w v k = score q r w v k := rfl
theorem pay5_eq (q r w v k) : k0_pay5 (F := Ideal) q r w v k = score q r w v k := by unfold k0_pay5; rw [shapeCast_self]; rfl
theorem pay7_eq (q r w v k) : k0_pay7 (F := Ideal) q r w v k = k0_pay6 q r w v k := by unfold k0_pay7; rw [shapeCast_self]
theorem pay9_eq (q r w v k) : k0_pay9 (F := Ideal) q r w v k = k0_pay6 q r w v k := by unfold k0_pay9; rw [shapeCast_self]; rfl
theorem pay12_eq (q r w v k) : k0_pay12 (F := Ideal) q r w v k = k0_pay6 q r w v k := by unfold k0_pay12; rw [shapeCast_self]; rfl
theorem pay14_eq (q r w v k) : k0_pay14 (F := Ideal) q r w v k = k0_pay6 q r w v k := by unfold k0_pay14; rw [shapeCast_self]; rfl
theorem pay17_eq (q r w v k) : k0_pay17 (F := Ideal) q r w v k = k0_pay6 q r w v k := by unfold k0_pay17; rw [shapeCast_self]; rfl
theorem pay19_eq (q r w v k) : k0_pay19 (F := Ideal) q r w v k = k0_pay6 q r w v k := by unfold k0_pay19; rw [shapeCast_self]; rfl
theorem pay22_eq (q r w v k) : k0_pay22 (F := Ideal) q r w v k = k0_pay6 q r w v k := by unfold k0_pay22; rw [shapeCast_self]; rfl

set_option maxHeartbeats 2000000 in
/-- The block written at point `t`: the stages over the eight chunks of the point's input blocks. -/
theorem outs_eq (c : Dev nD) (t : Fin cfg0.N) :
    let s : Fin 8 → FVec Ideal S64x1024 .f32 := fun k => score (iblk m c 0 t) (iblk m c 1 t) (wOf (iblk m c 3 t) (grid0.coords t) k)
      (vOf (iblk m c 2 t) k) (kOf (iblk m c 4 t) k)
    outsAt0 m c t = block (runMax s) s (wOf (iblk m c 3 t) (grid0.coords t)) (vOf (iblk m c 2 t)) := by
  intro s
  unfold outsAt0
  frame_open
  simp (disch := decide) only [↓ View.readCov_skip, ↓ View.readCov_cons_toLoadRect]
  frame_out
  simp only [pay4_eq, pay5_eq, pay7_eq, pay9_eq, pay12_eq, pay14_eq, pay17_eq, pay19_eq, pay22_eq]
  rfl

end Cert.KernelIdeal.Attn
-- ==== Proof.Attention.lean ====
/-
  THE FUNCTION BOTH PROGRAMS COMPUTE.  Attention of 128 sequences with 64 heads each over a latent cache of 8192 keys: `scores` is
  the row of scores of one head, `attention` the head's output at one latent coordinate.
-/
module

public import proofs.«01_k».proof.Proof.Softmax
public import Idealize.ShloMosaic.Lib.Claim

@[expose] public section

noncomputable section

namespace Cert.Attention

open Idealize.ShloMosaic

/-- A rank-two array over the extended reals. -/
abbrev A2 (a b : Nat) := (⟨2, ![a, b]⟩ : Shape).Idx → EReal

/-- A rank-three array over the extended reals. -/
abbrev A3 (a b c : Nat) := (⟨3, ![a, b, c]⟩ : Shape).Idx → EReal

/-- A rank-four array over the extended reals. -/
abbrev A4 (a b c d : Nat) := (⟨4, ![a, b, c, d]⟩ : Shape).Idx → EReal

/-- The score of key `t` for head `h` of sequence `b`: the query against the key's latent codes, times the key's scale, plus the
    rotary query against the rotary key; the sum times the softmax scale. -/
def scores (X : A3 128 1 32768) (Q : A4 128 1 64 64) (C : A3 128 8192 512) (W : A2 128 8192) (K : A3 128 8192 64) (b : Fin 128) (h : Fin 64)
    (t : Fin 8192) : EReal :=
  ((∑ x : Fin 512, X (ix3 b 0 ⟨h.val * 512 + x.val, by omega⟩) * C (ix3 b t x)) * W (ix2 b t)
    + ∑ x : Fin 64, Q (ix4 b 0 h x) * K (ix3 b t x)) * Ideal.ofBits .f32 0x3D93CD3A#32

/-- Latent coordinate `d` of the output of head `h` of sequence `b`: softmax attention over the scores, the weights scaled key by
    key, the values the latent codes. -/
def attention (X : A3 128 1 32768) (Q : A4 128 1 64 64) (C : A3 128 8192 512) (W : A2 128 8192) (K : A3 128 8192 64) (b : Fin 128) (h : Fin 64)
    (d : Fin 512) : EReal :=
  Softmax.row (Ideal.ofBits .f32 0xFF800000#32) (scores X Q C W K b h) (fun t => W (ix2 b t)) (fun t => C (ix3 b t d))

/-- The latent queries of all heads lie side by side: head `h`, coordinate `x` is entry `512 h + x` of the sequence's row. -/
theorem split_x (X : A3 128 1 32768) (hc : (⟨3, ![128, 1, 32768]⟩ : Shape).ShapeCasts ⟨3, ![128, 64, 512]⟩) (b : Fin 128) (h : Fin 64) (x : Fin 512) :
    shapeCast ⟨3, ![128, 64, 512]⟩ X hc (ix3 b h x) = X (ix3 b 0 ⟨h.val * 512 + x.val, by omega⟩) := by
  pointwise

/-- The rotary queries without the axis of length one. -/
theorem split_q (Q : A4 128 1 64 64) (hc : (⟨4, ![128, 1, 64, 64]⟩ : Shape).ShapeCasts ⟨3, ![128, 64, 64]⟩) (b : Fin 128) (h : Fin 64) (x : Fin 64) :
    shapeCast ⟨3, ![128, 64, 64]⟩ Q hc (ix3 b h x) = Q (ix4 b 0 h x) := by
  pointwise

end Cert.Attention
-- ==== Proof.KernelValue.lean ====
/-
  THE KERNEL'S RESULT ARRAY.  The block of grid point `t` is sequence `t`: its eight chunks of scores are the chunks of the row of
  8192 scores, so the block is `Attention.attention` of the arguments, and so is the whole array after the run.
-/
module

public import proofs.«01_k».proof.Proof.KernelBlock
public import proofs.«01_k».proof.Proof.Attention
public import Idealize.ShloMosaic.Lib.Claim

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

/-- The block over the row's chunks is the row: `s`, `w` and `v` are the chunks of `S`, `W` and `V` at head `h`, coordinate `d`. -/
theorem block_row (S W V : Fin 8192 → EReal) (s : Fin 8 → FVec Ideal S64x1024 .f32) (w : Fin 8 → Vec Ideal S1x1024 .f32)
    (v : Fin 8 → Vec Ideal S1x1024x512 .fp8e4m3) (u : Fin 1) (h : Fin 64) (d : Fin 512)
    (hs : ∀ k l, s k (ix2 h l) = Softmax.chunk S k l) (hw : ∀ k l, w k (ix2 0 l) = Softmax.chunk W k l)
    (hv : ∀ k l, v k (ix3 0 l d) = Softmax.chunk V k l) :
    block (runMax s) s w v (ix3 u h d) = Softmax.row (Ideal.ofBits .f32 0xFF800000#32) S W V := by
  have hM : runMax s (ix2 h 0) = Softmax.top (Ideal.ofBits .f32 0xFF800000#32) S := by
    rw [runMax_at, ← Softmax.top8_eq]; congr 1; funext k l; exact hs k l
  rw [block_at, hM, Softmax.row, ← Softmax.sum_chunks fun t => _, ← Softmax.sum_lanes fun t => _]
  simp only [hs, hw, hv]
  rfl

/-- Where the windows' blocks lie in their arrays, at every grid point. -/
theorem idx : ∀ t : Fin cfg0.N, win0_0.index t = ![t.val, 0, 0] ∧ win0_1.index t = ![t.val, 0, 0] ∧ win0_2.index t = ![t.val, 0, 0]
    ∧ win0_3.index t = ![t.val / 8, 0] ∧ win0_4.index t = ![t.val, 0, 0] ∧ win0_5.index t = ![t.val, 0, 0] ∧ (grid0.coords t 0).val = t.val :=
  (by decide +kernel : ∀ t : Fin grid0.N, _)

variable (m : (ℓ : Loc nD τ sig) → Buf (Elt Ideal) ℓ)

/-- The block of window 0, read from any contents `A` of its array. -/
theorem read_x (c : Dev nD) (A : Buf (Elt Ideal) ((c : Thread nD τ).loc main_v0)) (t : Fin cfg0.N) (b : Fin 128) (hb : b.val = t.val) (h : Fin 64) (x : Fin 512) :
    View.read (Elt Ideal) ((cfg0.win 0).blk t).view A (ix3 0 h x) = A (ix3 b h x) := by
  blk_point [idx t]

/-- The block of window 1, read from any contents `A` of its array. -/
theorem read_q (c : Dev nD) (A : Buf (Elt Ideal) ((c : Thread nD τ).loc main_v1)) (t : Fin cfg0.N) (b : Fin 128) (hb : b.val = t.val) (h : Fin 64) (x : Fin 64) :
    View.read (Elt Ideal) ((cfg0.win 1).blk t).view A (ix3 0 h x) = A (ix3 b h x) := by
  blk_point [idx t]

/-- The reshaped latent queries before the region. -/
theorem V_v0 (c : Dev nD) : V m c main_v0
    = shapeCast S128x64x512 (m ((c : Thread nD τ).loc main_arg0)) shapeCasts_S128x1x32768_S128x64x512 := by
  unfold V V0
  simp only [List.flatten_cons, List.flatten_nil, List.append_nil]
  unfold hostOps0
  after_results
  rfl

/-- The reshaped rotary queries before the region. -/
theorem V_v1 (c : Dev nD) : V m c main_v1
    = shapeCast S128x64x64 (m ((c : Thread nD τ).loc main_arg1)) shapeCasts_S128x1x64x64_S128x64x64 := by
  unfold V V0
  simp only [List.flatten_cons, List.flatten_nil, List.append_nil]
  unfold hostOps0
  after_results
  rfl

/-- At grid point `t = b`: the latent queries of sequence `b`, read through the reshape. -/
theorem x_at (c : Dev nD) (t : Fin cfg0.N) (b : Fin 128) (hb : b.val = t.val) (h : Fin 64) (x : Fin 512) :
    iblk m c 0 t (ix3 0 h x) = m ((c : Thread nD τ).loc main_arg0) (ix3 b 0 ⟨h.val * 512 + x.val, by omega⟩) := by
  refine (read_x c (V m c main_v0) t b hb h x).trans ((congrFun (V_v0 m c) _).trans
    (Attention.split_x (m ((c : Thread nD τ).loc main_arg0)) _ b h x))

/-- At grid point `t = b`: the rotary queries of sequence `b`, read through the reshape. -/
theorem q_at (c : Dev nD) (t : Fin cfg0.N) (b : Fin 128) (hb : b.val = t.val) (h : Fin 64) (x : Fin 64) :
    iblk m c 1 t (ix3 0 h x) = m ((c : Thread nD τ).loc main_arg1) (ix4 b 0 h x) := by
  refine (read_q c (V m c main_v1) t b hb h x).trans ((congrFun (V_v1 m c) _).trans
    (Attention.split_q (m ((c : Thread nD τ).loc main_arg1)) _ b h x))

/-- At grid point `t = b`: the latent codes of sequence `b`. -/
theorem c_at (c : Dev nD) (t : Fin cfg0.N) (b : Fin 128) (hb : b.val = t.val) (k : Fin 8192) (x : Fin 512) :
    iblk m c 2 t (ix3 0 k x) = m ((c : Thread nD τ).loc main_arg2) (ix3 b k x) := by
  blk_point [iblk, V, idx t]

/-- At grid point `t = b`: the scales of sequence `b`: the window holds eight sequences' rows. -/
theorem w_at (c : Dev nD) (t : Fin cfg0.N) (b : Fin 128) (hb : b.val = t.val) (k : Fin 8192) (r : Fin 8) (hr : r.val = t.val % 8) :
    iblk m c 3 t (ix2 r k) = m ((c : Thread nD τ).loc main_arg3) (ix2 b k) := by
  blk_point [iblk, V, idx t]

/-- At grid point `t = b`: the rotary keys of sequence `b`. -/
theorem k_at (c : Dev nD) (t : Fin cfg0.N) (b : Fin 128) (hb : b.val = t.val) (k : Fin 8192) (x : Fin 64) :
    iblk m c 4 t (ix3 0 k x) = m ((c : Thread nD τ).loc main_arg4) (ix3 b k x) := by
  blk_point [iblk, V, idx t]

/-- The attention of the kernel's arguments. -/
abbrev att (c : Dev nD) : Fin 128 → Fin 64 → Fin 512 → EReal :=
  Attention.attention (m ((c : Thread nD τ).loc main_arg0)) (m ((c : Thread nD τ).loc main_arg1)) (m ((c : Thread nD τ).loc main_arg2))
    (m ((c : Thread nD τ).loc main_arg3)) (m ((c : Thread nD τ).loc main_arg4))

/-- The block written at grid point `t` is the attention of sequence `t`. -/
theorem outs_at (c : Dev nD) (t : Fin cfg0.N) (b : Fin 128) (hb : b.val = t.val) (u : Fin 1) (h : Fin 64) (d : Fin 512) :
    outsAt0 m c t (ix3 u h d) = att m c b h d := by
  have ht : (grid0.coords t 0).val % 8 = t.val % 8 := by rw [(idx t).2.2.2.2.2.2]
  rw [outs_eq]
  refine block_row _ _ _ _ _ _ u h d ?_ ?_ ?_
  · intro k l
    rw [score_at, wOf_at, w_at m c t b hb _ _ ht]
    simp only [vOf_at, kOf_at, x_at m c t b hb, q_at m c t b hb, c_at m c t b hb, k_at m c t b hb]
    rfl
  · intro k l
    rw [wOf_at, w_at m c t b hb _ _ ht]
    rfl
  · intro k l
    rw [vOf_at, c_at m c t b hb]
    rfl

/-- THE KERNEL'S RESULT after its run: the attention of the arguments, at every index. -/
theorem final (c : Dev nD) : (dats m 0 c).arrAt 5 cfg0.N = fun i : S128x64x512.Idx => att m c (i 0) (i 1) (i 2) := by
  refine (dats m 0 c).arrAt_eq_of_covers 5 _ (by decide +kernel) fun t hf y => ?_
  have h0 : (((win0_5.blk t).view.emb y 0 : Fin 128)).val = t.val := by have := (y 0).isLt; blk_simp [idx t]; try omega
  have h1 : ((win0_5.blk t).view.emb y 1 : Fin 64) = y 1 := Fin.ext (by blk_simp [idx t]; try omega)
  have h2 : ((win0_5.blk t).view.emb y 2 : Fin 512) = y 2 := Fin.ext (by blk_simp [idx t]; try omega)
  have hy : (y : S1x64x512.Idx) = ix3 (y 0) (y 1) (y 2) := eq_ix3 (n0 := 1) (n1 := 64) (n2 := 512) y
  blk_simp
  rw [after0_5]
  refine (congrArg (outsAt0 m c t) hy).trans ((outs_at m c t _ h0 (y 0) (y 1) (y 2)).trans ?_)
  show att m c _ _ _ = att m c _ _ _
  rw [h1, h2]

/-- What the run returns: the program's last operation reshapes the call's result array. -/
theorem tail_v3 (c : Dev nD) : Pipeline.afterTail₀ cfgs (dats m) 0 (V0 m) [hostOps1] c main_v3
    = shapeCast S128x1x32768 ((dats m 0 c).arrAt 5 cfg0.N) shapeCasts_S128x64x512_S128x1x32768 := by
  have h : Pipeline.withArrays spec0 c (V0 m c) (fun w => (dats m 0 c).arrAt w cfg0.N) (Proc.devRef .tc main_v2) = (dats m 0 c).arrAt 5 cfg0.N :=
    Pipeline.withArrays_arr spec0 (by decide) c (V0 m c) _ 5
  unfold Pipeline.afterTail₀
  simp only [List.flatten_cons, List.flatten_nil, List.append_nil]
  unfold hostOps1
  after_results
  rw [← h]
  rfl

end Cert.KernelIdeal.Attn
-- ==== Proof.ReferenceValue.lean ====
/-
  THE REFERENCE'S RESULT ARRAY.  The reference is one grid point whose blocks are its whole arrays; its payload read at an index is
  `Attention.attention` of the arguments.
-/
module

public import proofs.«01_k».proof.Proof.Attention
public import proofs.«01_k».proof.Proof.Gen.ReferenceIdeal.Frame
public import Idealize.ShloMosaic.Lib.Pipeline.ValueKit
public import Idealize.ShloMosaic.Lib.Pointwise
public import Idealize.ShloMosaic.Lib.Claim

@[expose] public section

set_option maxRecDepth 16384

noncomputable section

namespace Cert.ReferenceIdeal.Attn

open Cert.ReferenceIdeal Cert.ReferenceIdeal.Gen Idealize.ShloMosaic Idealize.ShloMosaic.TcCoe Idealize.SL.Sem
open Idealize.ShloMosaic.Pipeline (Dat)

/-- The reference's payload at an index: one row of attention over the arrays it is given. -/
theorem pay_at (C : Vec Ideal S128x8192x512 .fp8e4m3) (W : Vec Ideal S128x8192 .f32) (X : Vec Ideal S128x64x512 .bf16)
    (Q : Vec Ideal S128x64x64 .bf16) (K : Vec Ideal S128x8192x64 .bf16) (b : Fin 128) (h : Fin 64) (d : Fin 512) :
    k0_pay1 C W X Q K (ix3 b h d)
      = Softmax.row (Ideal.ofBits .f32 0xFF800000#32)
          (fun t => ((∑ x, X (ix3 b h x) * C (ix3 b t x)) * W (ix2 b t) + ∑ x, Q (ix3 b h x) * K (ix3 b t x)) * Ideal.ofBits .f32 0x3D93CD3A#32)
          (fun t => W (ix2 b t)) (fun t => C (ix3 b t d)) := by
  pointwise [k0_pay1]
  rfl

/-- So it is the attention of any arguments that the arrays it is given hold. -/
theorem pay_attention (C : Vec Ideal S128x8192x512 .fp8e4m3) (W : Vec Ideal S128x8192 .f32) (X : Vec Ideal S128x64x512 .bf16)
    (Q : Vec Ideal S128x64x64 .bf16) (K : Vec Ideal S128x8192x64 .bf16) (X' : Attention.A3 128 1 32768) (Q' : Attention.A4 128 1 64 64)
    (C' : Attention.A3 128 8192 512) (W' : Attention.A2 128 8192) (K' : Attention.A3 128 8192 64)
    (hX : ∀ (b : Fin 128) (h : Fin 64) (x : Fin 512), X (ix3 b h x) = X' (ix3 b 0 ⟨h.val * 512 + x.val, by omega⟩))
    (hQ : ∀ (b : Fin 128) (h : Fin 64) (x : Fin 64), Q (ix3 b h x) = Q' (ix4 b 0 h x))
    (hC : ∀ (b : Fin 128) (t : Fin 8192) (x : Fin 512), C (ix3 b t x) = C' (ix3 b t x))
    (hW : ∀ (b : Fin 128) (t : Fin 8192), W (ix2 b t) = W' (ix2 b t))
    (hK : ∀ (b : Fin 128) (t : Fin 8192) (x : Fin 64), K (ix3 b t x) = K' (ix3 b t x)) (b : Fin 128) (h : Fin 64) (d : Fin 512) :
    k0_pay1 C W X Q K (ix3 b h d) = Attention.attention X' Q' C' W' K' b h d := by
  rw [pay_at]
  simp only [hX, hQ, hC, hW, hK]
  rfl

/-- Every window's block is its whole array. -/
theorem idx : ∀ t : Fin cfg0.N, win0_0.index t = ![0, 0, 0] ∧ win0_1.index t = ![0, 0, 0] ∧ win0_2.index t = ![0, 0, 0]
    ∧ win0_3.index t = ![0, 0] ∧ win0_4.index t = ![0, 0, 0] :=
  (by decide +kernel : ∀ t : Fin grid0.N, _)

variable (m : (ℓ : Loc nD τ sig) → Buf (Elt Ideal) ℓ)

/-- The block of window 0, read from any contents `A` of its array. -/
theorem read_x (c : Dev nD) (A : Buf (Elt Ideal) ((c : Thread nD τ).loc main_v0)) (t : Fin cfg0.N) (b : Fin 128) (h : Fin 64) (x : Fin 512) :
    View.read (Elt Ideal) ((cfg0.win 0).blk t).view A (ix3 b h x) = A (ix3 b h x) := by
  blk_point [idx t]

/-- The block of window 1, read from any contents `A` of its array. -/
theorem read_q (c : Dev nD) (A : Buf (Elt Ideal) ((c : Thread nD τ).loc main_v1)) (t : Fin cfg0.N) (b : Fin 128) (h : Fin 64) (x : Fin 64) :
    View.read (Elt Ideal) ((cfg0.win 1).blk t).view A (ix3 b h x) = A (ix3 b h x) := by
  blk_point [idx t]

/-- The reshaped latent queries before the region. -/
theorem V_v0 (c : Dev nD) : V m c main_v0
    = shapeCast S128x64x512 (m ((c : Thread nD τ).loc main_arg0)) shapeCasts_S128x1x32768_S128x64x512 := by
  unfold V V0
  simp only [List.flatten_cons, List.flatten_nil, List.append_nil]
  unfold hostOps0
  after_results
  rfl

/-- The reshaped rotary queries before the region. -/
theorem V_v1 (c : Dev nD) : V m c main_v1
    = shapeCast S128x64x64 (m ((c : Thread nD τ).loc main_arg1)) shapeCasts_S128x1x64x64_S128x64x64 := by
  unfold V V0
  simp only [List.flatten_cons, List.flatten_nil, List.append_nil]
  unfold hostOps0
  after_results
  rfl

/-- The reshaped latent queries, at an index of the argument. -/
theorem x_at (c : Dev nD) (t : Fin cfg0.N) (b : Fin 128) (h : Fin 64) (x : Fin 512) :
    iblk m c 0 t (ix3 b h x) = m ((c : Thread nD τ).loc main_arg0) (ix3 b 0 ⟨h.val * 512 + x.val, by omega⟩) := by
  refine (read_x c (V m c main_v0) t b h x).trans ((congrFun (V_v0 m c) _).trans
    (Attention.split_x (m ((c : Thread nD τ).loc main_arg0)) _ b h x))

/-- The reshaped rotary queries, at an index of the argument. -/
theorem q_at (c : Dev nD) (t : Fin cfg0.N) (b : Fin 128) (h : Fin 64) (x : Fin 64) :
    iblk m c 1 t (ix3 b h x) = m ((c : Thread nD τ).loc main_arg1) (ix4 b 0 h x) := by
  refine (read_q c (V m c main_v1) t b h x).trans ((congrFun (V_v1 m c) _).trans
    (Attention.split_q (m ((c : Thread nD τ).loc main_arg1)) _ b h x))

/-- The latent codes. -/
theorem c_at (c : Dev nD) (t : Fin cfg0.N) (b : Fin 128) (k : Fin 8192) (x : Fin 512) :
    iblk m c 2 t (ix3 b k x) = m ((c : Thread nD τ).loc main_arg2) (ix3 b k x) := by
  blk_point [iblk, V, idx t]

/-- The scales. -/
theorem w_at (c : Dev nD) (t : Fin cfg0.N) (b : Fin 128) (k : Fin 8192) :
    iblk m c 3 t (ix2 b k) = m ((c : Thread nD τ).loc main_arg3) (ix2 b k) := by
  blk_point [iblk, V, idx t]

/-- The rotary keys. -/
theorem k_at (c : Dev nD) (t : Fin cfg0.N) (b : Fin 128) (k : Fin 8192) (x : Fin 64) :
    iblk m c 4 t (ix3 b k x) = m ((c : Thread nD τ).loc main_arg4) (ix3 b k x) := by
  blk_point [iblk, V, idx t]

/-- The attention of the reference's arguments. -/
abbrev att (c : Dev nD) : Fin 128 → Fin 64 → Fin 512 → EReal :=
  Attention.attention (m ((c : Thread nD τ).loc main_arg0)) (m ((c : Thread nD τ).loc main_arg1)) (m ((c : Thread nD τ).loc main_arg2))
    (m ((c : Thread nD τ).loc main_arg3)) (m ((c : Thread nD τ).loc main_arg4))

/-- THE REFERENCE'S RESULT after its run: the attention of the arguments, at every index. -/
theorem final (c : Dev nD) : (dats m 0 c).arrAt 5 cfg0.N = fun i : S128x64x512.Idx => att m c (i 0) (i 1) (i 2) := by
  refine (dats m 0 c).arrAt_eq_of_after_last 5 t0_0 (by decide +kernel) _ fun j => ?_
  blk_simp
  rw [after0_5]
  frame_out
  have hj : (j : S128x64x512.Idx) = ix3 (j 0) (j 1) (j 2) := eq_ix3 (n0 := 128) (n1 := 64) (n2 := 512) j
  exact (congrArg (k0_pay1 (iblk m c 2 t0_0) (iblk m c 3 t0_0) (iblk m c 0 t0_0) (iblk m c 1 t0_0) (iblk m c 4 t0_0)) hj).trans
    (pay_attention _ _ _ _ _ _ _ _ _ _ (x_at m c t0_0) (q_at m c t0_0) (c_at m c t0_0) (w_at m c t0_0) (k_at m c t0_0) (j 0) (j 1) (j 2))

/-- What the run returns: the program's last operation reshapes the call's result array. -/
theorem tail_v3 (c : Dev nD) : Pipeline.afterTail₀ cfgs (dats m) 0 (V0 m) [hostOps1] c main_v3
    = shapeCast S128x1x32768 ((dats m 0 c).arrAt 5 cfg0.N) shapeCasts_S128x64x512_S128x1x32768 := by
  have h : Pipeline.withArrays spec0 c (V0 m c) (fun w => (dats m 0 c).arrAt w cfg0.N) (Proc.devRef .tc main_v2) = (dats m 0 c).arrAt 5 cfg0.N :=
    Pipeline.withArrays_arr spec0 (by decide) c (V0 m c) _ 5
  unfold Pipeline.afterTail₀
  simp only [List.flatten_cons, List.flatten_nil, List.append_nil]
  unfold hostOps1
  after_results
  rw [← h]
  rfl

end Cert.ReferenceIdeal.Attn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- From memories that agree on the arguments, kernel and reference end with the same result array at the ideal instance: the
    attention of the arguments (`Attention.attention`). -/
theorem algebraic : algebraic_KernelIdeal_ReferenceIdeal (hKernelIdeal := Cert.KernelIdeal.Gen.facts) (hReferenceIdeal := Cert.ReferenceIdeal.Gen.facts) := by
  pair_intro
  · run_from Cert.KernelIdeal.Gen.run_main m g
    · exact Cert.KernelIdeal.Gen.W_main_arg0 m _ c
    · exact Cert.KernelIdeal.Gen.W_main_arg1 m _ c
  · run_from Cert.ReferenceIdeal.Gen.run_main m' g'
    · rw [Cert.ReferenceIdeal.Attn.tail_v3, Cert.KernelIdeal.Attn.tail_v3, Cert.ReferenceIdeal.Attn.final, Cert.KernelIdeal.Attn.final]
      obtain ⟨h0, h1, h2, h3, h4⟩ := hagree c
      unfold Cert.ReferenceIdeal.Attn.att Cert.KernelIdeal.Attn.att
      rw [h0, h1, h2, h3, h4]
    · exact (Cert.ReferenceIdeal.Gen.W_main_arg0 m' _ c).trans (hagree c).1
    · exact (Cert.ReferenceIdeal.Gen.W_main_arg1 m' _ c).trans (hagree c).2.1

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
